-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S100000x128 : Shape := ⟨2, ![100000, 128]⟩
abbrev S50000x2x128 : Shape := ⟨3, ![50000, 2, 128]⟩
abbrev S4x128 : Shape := ⟨2, ![4, 128]⟩
abbrev S_ : Shape := ⟨0, ![]⟩
abbrev S2x128 : Shape := ⟨2, ![2, 128]⟩
abbrev S2x1x128 : Shape := ⟨3, ![2, 1, 128]⟩
abbrev S2x2x128 : Shape := ⟨3, ![2, 2, 128]⟩

abbrev nBuf : Table → Nat
  | .hbm => 4
  | _ => 0

abbrev bufTy : (tb : Table) → Fin (nBuf tb) → BufTy
  | .hbm, ⟨0, _⟩ => ⟨S100000x128, .f32⟩
  | .hbm, ⟨1, _⟩ => ⟨S50000x2x128, .f32⟩
  | .hbm, ⟨2, _⟩ => ⟨S4x128, .f32⟩
  | .hbm, ⟨3, _⟩ => ⟨S2x2x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scs : Ref sig .scScalar := ⟨.hbm, 1, rfl⟩
abbrev main_v1_scs : Ref sig .scScalar := ⟨.hbm, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S100000x128 : Shape := ⟨2, ![100000, 128]⟩
abbrev S1x2x2 : Shape := ⟨3, ![1, 2, 2]⟩
abbrev S2x2 : Shape := ⟨2, ![2, 2]⟩
abbrev S4 : Shape := ⟨1, ![4]⟩
abbrev S_ : Shape := ⟨0, ![]⟩
abbrev S4x1 : Shape := ⟨2, ![4, 1]⟩
abbrev S1 : Shape := ⟨1, ![1]⟩
abbrev S1x1 : Shape := ⟨2, ![1, 1]⟩
abbrev S4x128 : Shape := ⟨2, ![4, 128]⟩
abbrev S2x2x128 : Shape := ⟨3, ![2, 2, 128]⟩

abbrev nBuf : Space → Nat
  | .hbm => 28
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1x2x2, .i32⟩
  | .hbm, ⟨2, _⟩ => ⟨S2x2, .i32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i1⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S4, .i32⟩
  | .hbm, ⟨11, _⟩ => ⟨S4x1, .i32⟩
  | .hbm, ⟨12, _⟩ => ⟨S1, .i32⟩
  | .hbm, ⟨13, _⟩ => ⟨S_, .i32⟩
  | .hbm, ⟨14, _⟩ => ⟨S4x1, .i32⟩
  | .hbm, ⟨15, _⟩ => ⟨S4x1, .i1⟩
  | .hbm, ⟨16, _⟩ => ⟨S1x1, .i32⟩
  | .hbm, ⟨17, _⟩ => ⟨S4x1, .i32⟩
  | .hbm, ⟨18, _⟩ => ⟨S4x1, .i1⟩
  | .hbm, ⟨19, _⟩ => ⟨S4x1, .i1⟩
  | .hbm, ⟨20, _⟩ => ⟨S_, .i1⟩
  | .hbm, ⟨21, _⟩ => ⟨S4, .i1⟩
  | .hbm, ⟨22, _⟩ => ⟨S4x128, .f32⟩
  | .hbm, ⟨23, _⟩ => ⟨S4x128, .i1⟩
  | .hbm, ⟨24, _⟩ => ⟨S_, .f32⟩
  | .hbm, ⟨25, _⟩ => ⟨S4x128, .f32⟩
  | .hbm, ⟨26, _⟩ => ⟨S4x128, .f32⟩
  | .hbm, ⟨27, _⟩ => ⟨S2x2x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Body.lean ====
/-
  The sequencer's body: two copies from the table, viewed as pairs of rows, into the four-row result. What the copies read
  and write is worked out row by row; the body is then run once, for any float values.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Writes
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.Rows

open Cert.KernelIdeal Cert.KernelIdeal.Gen

open Idealize.ShloMosaic Idealize.ShloMosaic.ValueIdx
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The ghost state: the rounds of the call's handshakes, and the counters the copies use. -/
abbrev UH : Type := URounds (GSem nD τ sig) ℕ
abbrev UU : Type := UH × Counters

local notation "𝕄" => MT nD τ sig (HIx 1) (Elt F) ℕ UU ℕ

/-- The table viewed as pairs of rows, and the four-row result, as the sequencer names them: each array whole. -/
abbrev xW : Memref sig .scScalar .hbm S50000x2x128 .f32 := Memref.whole main_v0_scs
abbrev tW : Memref sig .scScalar .hbm S4x128 .f32 := Memref.whole main_v1_scs

/-- Where those two arrays lie on device `d`, as the TensorCore names them. -/
abbrev xLoc (d : Dev nD) : Loc nD τ sig := (SparseCore.T d).loc main_v0
abbrev tLoc (d : Dev nD) : Loc nD τ sig := (SparseCore.T d).loc main_v1

variable [FloatOps F]

/-- The launch grid's point at core `c`; the grid has this one axis. -/
def coords (c : Fin (grid0.bound 0)) : grid0.Coords := fun | 0 => c | ⟨_ + 1, h⟩ => absurd h (Nat.not_lt.2 (Nat.le_add_left _ _))

/-- The sequencer of that core on device `d`. -/
abbrev seqr (d : Dev nD) (c : Fin (grid0.bound 0)) : Thread nD τ := S d (c.castLE hcore0)

/-- The rows that the kernel leaves: row `q` of the result is half `q / 2` of pair `q % 2`. -/
def picked (x : S50000x2x128.Idx → Elt F .f32) : S4x128.Idx → Elt F .f32 :=
  fun q => x (ix3 ⟨(q 0).val % 2, by omega⟩ ⟨(q 0).val / 2, by have h : (q 0).val < 4 := (q 0).isLt; omega⟩ (q 1))

omit [FloatOps F] in
/-- A copy's source, the first two pairs' half `o` with the middle axis dropped: its row `p` is half `o` of pair `p`. -/
theorem half_read (o : Fin 2) (inb : ∀ a, (![0, o.val, 0] : Fin 3 → Nat) a + S2x1x128.size a ≤ S50000x2x128.size a)
    (hsq : S2x1x128.Squeezes S2x128) (fx : S50000x2x128.Idx → Elt F .f32) (y : S2x128.Idx) :
    ((xW.slice (Rect.unit (s := S50000x2x128) ![0, o.val, 0] S2x1x128.size inb) (fun _ => rfl)).squeeze S2x128 hsq).view.read (Elt F) fx y
      = fx (ix3 ⟨(y 0).val, by have h : (y 0).val < 2 := (y 0).isLt; omega⟩ o (y 1)) := by
  have e : Shape.reshapeEquiv hsq.numel_eq y = (ix3 (n0 := 2) (n1 := 1) (n2 := 128) (y 0) 0 (y 1) : S2x1x128.Idx) := by
    refine Shape.reshapeEquiv_eq_of_rowMajor _ ?_
    refine (Shape.rowMajor_val_three _).trans (Eq.trans ?_ (Shape.rowMajor_val_two _).symm)
    show ((y 0).val * 1 + 0) * 128 + (y 1).val = (y 0).val * 128 + (y 1).val
    omega
  show fx ((Rect.unit (s := S50000x2x128) ![0, o.val, 0] S2x1x128.size inb).emb (Shape.reshapeEquiv hsq.numel_eq y)) = _
  rw [e]
  refine congrArg fx (Rect.emb_eq_of_coords _ _ _ fun a => ?_)
  match a with
  | ⟨0, _⟩ => show (y 0).val = 0 + 1 * (y 0).val; omega
  | ⟨1, _⟩ => show o.val = o.val + 1 * 0; omega
  | ⟨2, _⟩ => show (y 1).val = 0 + 1 * (y 1).val; omega

omit [FloatOps F] in
/-- The result array after both copies have landed, half 0 in rows 0 and 1 and half 1 in rows 2 and 3: every row has been
    written, whatever the array held, and the array is at the picked rows. -/
theorem halves_written (fx : S50000x2x128.Idx → Elt F .f32) (ft : S4x128.Idx → Elt F .f32) (w₀ w₁ : S2x128.Idx → Elt F .f32)
    (h₀ : ∀ y, w₀ y = fx (ix3 ⟨(y 0).val, by have h : (y 0).val < 2 := (y 0).isLt; omega⟩ (0 : Fin 2) (y 1)))
    (h₁ : ∀ y, w₁ y = fx (ix3 ⟨(y 0).val, by have h : (y 0).val < 2 := (y 0).isLt; omega⟩ (1 : Fin 2) (y 1))) :
    tW.view.writes (Elt F) ft
      [⟨Rect.unit (s := S4x128) ![2, 0] S2x128.size inb_S4x128_S2x128_2_0, w₁⟩,
        ⟨Rect.unit (s := S4x128) ![0, 0] S2x128.size inb_S4x128_S2x128_0_0, w₀⟩] = picked fx := by
  refine (View.read_whole (Val := Elt F) main_v1_scs _).symm.trans (funext fun q => ?_)
  show tW.view.read (Elt F) _ q = _
  have hq : (q 0).val < 4 := (q 0).isLt
  by_cases h : (q 0).val < 2
  · rw [View.read_writes_cons_miss_of_axis (a := (0 : Fin 2)) (o := 2) (n := 2) (ho := rfl) (hst := rfl) (hn := rfl) (h := Or.inl h)]
    refine (View.read_writes_cons_hit_of_coords _ _ _ _ _ (ix2 ⟨(q 0).val, h⟩ (q 1)) q fun a => ?_).trans ((h₀ _).trans ?_)
    · match a with
      | ⟨0, _⟩ => show (q 0).val = 0 + 1 * (q 0).val; omega
      | ⟨1, _⟩ => show (q 1).val = 0 + 1 * (q 1).val; omega
    · unfold picked
      congr 1
      funext a
      match a with
      | ⟨0, _⟩ => exact Fin.ext (Nat.mod_eq_of_lt h).symm
      | ⟨1, _⟩ => exact Fin.ext (Nat.div_eq_of_lt h).symm
      | ⟨2, _⟩ => rfl
  · refine (View.read_writes_cons_hit_of_coords _ _ _ _ _ (ix2 ⟨(q 0).val - 2, by omega⟩ (q 1)) q fun a => ?_).trans ((h₁ _).trans ?_)
    · match a with
      | ⟨0, _⟩ => show (q 0).val = 2 + 1 * ((q 0).val - 2); omega
      | ⟨1, _⟩ => show (q 1).val = 0 + 1 * (q 1).val; omega
    · unfold picked
      congr 1
      funext a
      match a with
      | ⟨0, _⟩ => exact Fin.ext (show (q 0).val - 2 = (q 0).val % 2 by omega)
      | ⟨1, _⟩ => exact Fin.ext (show 1 = (q 0).val / 2 by omega)
      | ⟨2, _⟩ => rfl

/-- The sequencer's body. It starts both copies and then awaits both on one semaphore: only after the second wait are both
    known to have landed, and then the array is at the picked rows, the table's view as it was and the semaphore at zero. -/
theorem copies [∀ e, Nonempty (Elt F e)] (d : Dev nD) (c : Fin (grid0.bound 0)) (O : CellTallies nD τ sig (HIx 1)) (W : Waits sig (HIx 1))
    (fx : Buf (Elt F) (xW.view.loc (seqr d c))) (ft : Buf (Elt F) (tW.view.loc (seqr d c))) :
    iprop(Transfers.MayWaits (seqr d c) (none : HIx 1) O
        ∗ (xW.view.loc (seqr d c) ↦{fullShare} fx) ∗ (tW.view.loc (seqr d c) ↦{fullShare} ft)
        ∗ semVal (seqr d c, SemLoc.dma cc0_scratch0.sem) 0 ∗ owes (seqr d c) O W)
      ⊢ wp frame (wpE (defs₀ (F := F)) Variants.none (seqr d c) none) Set.univ
          (cc0__gather_rows (coords c) xW (Memref.isWhole_whole _) tW (Memref.isWhole_whole _) cc0_scratch0)
          fun _ => (iprop((xW.view.loc (seqr d c) ↦{fullShare} fx) ∗ (tW.view.loc (seqr d c) ↦{fullShare} picked fx)
            ∗ semVal (seqr d c, SemLoc.dma cc0_scratch0.sem) 0
            ∗ ∃ W', ⌜∀ p ∈ W', p ∈ W ∨ p.2 = none⌝ ∗ owes (seqr d c) O W') : sProp 𝕄) := by
  have plan : Transfers.BatchOf (seqr d c) (SemLoc.dma (sig := sig) cc0_scratch0.sem) 2 (windows := true) := trivial
  rw [cc0__gather_rows_eq_skeleton]; unfold cc0__gather_rows_skel
  iintro ⟨Hmw, Hx, Ht, Hsem, HO⟩
  sl_exec
  sl_step
  isplitl [Hx]; · iexact Hx
  isplitl [Ht]
  · iapply (Entails.of_eq (congrArg (fun f => (tW.view.loc (seqr d c) ↦{fullShare} f : sProp 𝕄))
      (halves_written fx ft _ _ (half_read 0 inb_S50000x2x128_S2x1x128_0_0_0 squeezes_S2x1x128_S2x128 fx)
        (half_read 1 inb_S50000x2x128_S2x1x128_0_1_0 squeezes_S2x1x128_S2x128 fx))))
    iexact Ht
  isplitl [Hsem]; · iexact Hsem
  iexists _; isplitr [HO]
  rotate_left
  · iexact HO
  · ipureintro
    intro p hp
    rcases Finset.mem_insert.mp hp with rfl | hp
    · exact .inr rfl
    rcases Finset.mem_insert.mp hp with rfl | hp
    · exact .inr rfl
    exact .inl hp

end Cert.Proof.Rows

end
-- ==== Proof.Launch.lean ====
/-
  The launch of the row-picking kernel: `@main` on the TensorCore views the table as pairs of rows, hands the view and the
  result array to the one SparseCore sequencer, takes them back, and views the four rows as a two by two array of rows.
  The run concludes with the table unchanged, the result at `answer`, and every semaphore counter at zero. It is written once,
  for any float values.
-/
module

public import proofs.«01_k».proof.Proof.Body

@[expose] public section

noncomputable section

namespace Cert.Proof.Rows

open Cert.KernelIdeal Cert.KernelIdeal.Gen

open Idealize.ShloMosaic
open Idealize.ShloMosaic.SparseCore (S T)
open Idealize.ShloMosaic.SparseCore.Cfg (HIx ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

/-! ## The program as the launch theorem reads it -/

/-- The labels, the SparseCore configuration, the bodies and the loop variants (there is no loop) of the generated program. -/
abbrev Lab : Labels := Pipeline.Sig Λ₀ (Fin 0) fun p => (pcfgs (F := F) p).Adm
abbrev K : SparseCore.Cfg τ sig (Lab (F := F)) 1 := sc (F := F)
abbrev bodies [FloatOps F] : Defs nD τ sig (Elt F) (Lab (F := F)) := Pipeline.defs pcfgs defs₀
abbrev vars : Variants := Variants.none.lift
abbrev var₀ : vars.V := Sum.inl none

/-- The handshake semaphores are distinct, unscoped, and no task shares a sequencer's buffer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds are the left factor of the ghost state; the copies' counters are the right one. -/
abbrev EH : Emb UH (MT nD τ sig (HIx 1) (Elt F) ℕ UU ℕ) := embL

variable [FloatOps F]

/-! ## What the call carries -/

variable (X : (d : Dev nD) → Buf (Elt F) (xLoc d))

/-- The call takes the pairs at `X` and the result array at anything. -/
def lent (d : Dev nD) : sProp 𝕄 := iprop((xLoc d ↦{fullShare} X d) ∗ ∃ f, tLoc d ↦{fullShare} f)

/-- It brings them back, the result array at the picked rows. -/
def back (d : Dev nD) : sProp 𝕄 := iprop((xLoc d ↦{fullShare} X d) ∗ tLoc d ↦{fullShare} picked (X d))

instance lent_storable (d : Dev nD) : BI.Storable (upEmb : UEmb _ 𝕄) (lent X d) := by unfold lent; infer_instance
instance back_storable (d : Dev nD) : BI.Storable (upEmb : UEmb _ 𝕄) (back X d) := by unfold back; infer_instance

/-- The one call's payloads; there are no tasks and nothing is consumed of the launch's. -/
def pay : (K (F := F)).Pay (nD := nD) (Val := Elt F) (Name := ℕ) (U := UU) where
  st := fun _ d _ => lent X d
  dn := fun _ d _ => back X d
  go := fun _ _ _ _ => iprop(emp)
  td := fun _ _ _ _ => iprop(emp)
  x := fun _ _ => iprop(emp)

instance pay_storable : (pay (F := F) X).IsStorable where
  st _ d _ := lent_storable X d
  dn _ d _ := back_storable X d
  go _ _ _ _ := by unfold pay; infer_instance
  td _ _ _ _ := by unfold pay; infer_instance

/-! ## The sequencer's obligation -/

omit [FloatOps F] in
/-- The sequencer's own semaphores at zero: the kernel's one, and the rest. -/
theorem own_split (d : Dev nD) (c : Fin τ.nSC) :
    (ownSems0 (S d c) : sProp 𝕄) = iprop(semVal (S d c, SemLoc.dma cc0_scratch0.sem) 0
      ∗ bigSep ((ownCells (S d c)).erase (S d c, SemLoc.dma cc0_scratch0.sem)) fun g => semVal g 0) := by
  unfold SparseCore.Cfg.ownSems0
  exact SparseCore.bigSep_erase' ((mem_ownCells (g := (S d c, SemLoc.dma cc0_scratch0.sem))).mpr ⟨rfl, by show (SemLoc.dma cc0_scratch0.sem : SemLoc sig).isScoped .scScalar = true; decide⟩)

/-- The sequencer's body, from what the call hands over to what it takes back. -/
theorem sequencer [∀ e, Nonempty (Elt F e)] (d : Dev nD) (c : Fin (grid0.bound 0)) (O : CellTallies nD τ sig (HIx 1)) (W : Waits sig (HIx 1))
    (hO : ∀ g, O g none = 0) :
    iprop(levAts (K (F := F)).L (K (F := F)).lev ∗ emp ∗ lent X d
        ∗ scopedBufs (seqr d c) ∗ scopedSems0 (seqr d c) ∗ owes (seqr d c) O W)
      ⊢ wp frame (wpE (defs₀ (F := F)) Variants.none (seqr d c) none) Set.univ
          (cc0__gather_rows (coords c) (Memref.whole main_v0_scs) (Memref.isWhole_whole _) (Memref.whole main_v1_scs) (Memref.isWhole_whole _) cc0_scratch0)
          fun _ => iprop(back X d ∗ scopedBufs (seqr d c) ∗ scopedSems0 (seqr d c)
            ∗ ∃ W', ⌜∀ p ∈ W', p ∈ W ∨ p.2 = none ∨ p.2 = some (0 : Fin 1)⌝ ∗ owes (seqr d c) O W') := by
  unfold lent back
  iintro ⟨#Hlv, -, ⟨Hx, %f, Ht⟩, Hsb, Hss, HO⟩
  ihave Hss' := (SparseCore.Cfg.scopedSems0_S_elim (Val := Elt F) d (c.castLE hcore0)) $$ Hss
  icases Hss' with ⟨Hown, Hsubs⟩
  ihave Hown' := (Entails.of_eq (own_split (F := F) d (c.castLE hcore0))) $$ Hown
  icases Hown' with ⟨Hsem, Hrest⟩
  ihave Hmw := ((K (F := F)).mayWaits_none (thr := seqr d c) hO) $$ Hlv
  iapply (wp_wand frame _ _) $$ [Hmw Hx Ht Hsem HO]
  · iapply (copies d c O W (X d) f)
    isplitl [Hmw]; · iexact Hmw
    isplitl [Hx]; · iexact Hx
    isplitl [Ht]; · iexact Ht
    isplitl [Hsem] <;> iassumption
  iintro %_ ⟨Hx, Ht, Hsem, %W', %hW', HO⟩
  isplitl [Hx Ht]
  · isplitl [Hx]; · iexact Hx
    iexact Ht
  isplitl [Hsb]; · iexact Hsb
  isplitl [Hsem Hrest Hsubs]
  · iapply (SparseCore.Cfg.scopedSems0_S_intro (Val := Elt F) d _)
    isplitl [Hsem Hrest]
    · rw [own_split]; isplitl [Hsem] <;> iassumption
    · iexact Hsubs
  iexists W'; isplitr
  · ipureintro; exact fun p hp => (hW' p hp).imp_right .inl
  · iexact HO

/-- The table of bodies at the call is the kernel on the one core the launch has. -/
theorem body_eq (c : Fin τ.nSC) :
    defs₀ (F := F) (.scScalar c) 0 () = SparseCore.onCore hcore0 (fun c => cc0__gather_rows (coords c) (Memref.whole main_v0_scs) (Memref.isWhole_whole _)
      (Memref.whole main_v1_scs) (Memref.isWhole_whole _) cc0_scratch0) ⟨⟩ c := rfl

/-- The launch theorem's obligation for the one call. -/
theorem obligation [∀ e, Nonempty (Elt F e)] : (K (F := F)).ScalarObl (bodies (F := F)) vars (pay X) var₀ 0 := by
  intro d c O W hO _ _
  simp only [show (pay X).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (bodies (F := F)) (Pipeline.defs_kernel pcfgs defs₀) Variants.none _ Set.univ none _ _)
  have hc : ((K (F := F)).core 0 c).val < grid0.bound 0 := c.isLt
  rw [body_eq]; simp only [SparseCore.onCore, hc, ↓reduceDIte]
  exact sequencer X d ⟨_, hc⟩ O W hO

/-! ## The launch's ghost state: the handshakes' rounds, nothing of the kernel's own -/

/-- The handshakes as they stand before the call; the copies' counters start empty. -/
def ghost₀ : UU := (initOf (K (F := F)).hsCells (K (F := F)).hsToks, 1)

omit [FloatOps F] in
/-- Nothing at every index is nothing. -/
theorem nothing {I : Type} (s : Finset I) : (bigSep s fun _ => iprop(emp)) = (iprop(emp) : sProp 𝕄) := bigSep_emp_const s

/-- The launch deals that ghost state out: the handshakes get theirs, nothing else is asked for. -/
theorem ghost_dealt : (ownU (ghost₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (pay X).x q thr) := by
  have hx : (bigSep Finset.univ fun thr : Thread nD τ => bigSep Finset.univ fun q : Fin 1 => (pay X).x q thr) = (iprop(emp) : sProp 𝕄) := by
    show (bigSep Finset.univ fun _ : Thread nD τ => bigSep Finset.univ fun _ : Fin 1 => (iprop(emp) : sProp 𝕄)) = _
    rw [bigSep_congr fun _ _ => nothing _, nothing]
  rw [hx, nothing]
  unfold ghost₀
  iintro Hu
  ihave H := (ownU_pair _ _) $$ Hu
  icases H with ⟨HH, -⟩
  imodintro
  isplitl [HH]; · iexact HH
  isplitr <;> iempintro

/-! ## `@main` on the TensorCore -/

variable (m : (ℓ : Loc nD τ sig) → Buf (Elt F) ℓ) (ρ : Dev nD → PrngReg)

/-- The table, its view as pairs, the four rows and the result. -/
abbrev a' : DevRef τ sig := Proc.devRef .tc (main_arg0 : Ref sig .tc)
abbrev x' : DevRef τ sig := Proc.devRef .tc (main_v0 : Ref sig .tc)
abbrev t' : DevRef τ sig := Proc.devRef .tc (main_v1 : Ref sig .tc)
abbrev r' : DevRef τ sig := Proc.devRef .tc (main_v2 : Ref sig .tc)
abbrev aLoc (d : Dev nD) : Loc nD τ sig := (SparseCore.T d).loc main_arg0
abbrev rLoc (d : Dev nD) : Loc nD τ sig := (SparseCore.T d).loc main_v2

/-- The view as pairs before the call, the view as a two by two array after it. -/
abbrev opPairs : HloOp τ sig (Elt F) := StableHlo.reshape main_arg0 main_v0 rfl shapeCasts_S100000x128_S50000x2x128
abbrev opGrid : HloOp τ sig (Elt F) := StableHlo.reshape main_v1 main_v2 rfl shapeCasts_S4x128_S2x2x128

/-- The program's result as a function of the table. -/
def answer (a : S100000x128.Idx → Elt F .f32) : S2x2x128.Idx → Elt F .f32 :=
  shapeCast S2x2x128 (picked (shapeCast S50000x2x128 a shapeCasts_S100000x128_S50000x2x128)) shapeCasts_S4x128_S2x2x128

/-- The arrays' contents at the launch, once viewed as pairs, after the call, and at the end. -/
def V0 (d : Dev nD) : Valuation τ sig (Elt F) := fun b => m (d, b)
abbrev V1 (d : Dev nD) : Valuation τ sig (Elt F) := (opPairs (F := F)).result (V0 m d)
def V2 (d : Dev nD) : Valuation τ sig (Elt F) := Function.update (V1 m d) t' (picked (V1 m d x'))
abbrev V3 (d : Dev nD) : Valuation τ sig (Elt F) := (opGrid (F := F)).result (V2 m d)

/-- The pairs as the call is given them. -/
def pairs (d : Dev nD) : Buf (Elt F) (xLoc d) := V1 m d x'

/-- No operation writes the table. -/
theorem V3_a (d : Dev nD) : V3 m d a' = m (aLoc d) :=
  ((opGrid (F := F)).result_of_not_mem (V2 m d) (b := a') (show a' ∉ ({r'} : Finset (DevRef τ sig)) by decide)).trans
    ((Function.update_of_ne (show a' ≠ t' by decide) _ _).trans
      ((opPairs (F := F)).result_of_not_mem (V0 m d) (b := a') (show a' ∉ ({x'} : Finset (DevRef τ sig)) by decide)))

/-- The pairs are the table, reshaped. -/
theorem pairs_eq (d : Dev nD) : pairs m d = shapeCast S50000x2x128 (m (aLoc d)) shapeCasts_S100000x128_S50000x2x128 :=
  (StableHlo.reshape_result main_arg0 main_v0 rfl shapeCasts_S100000x128_S50000x2x128 ⟨by decide, rfl⟩ ⟨by decide, rfl⟩ (V0 m d)).trans rfl

/-- The result ends at `answer` of the table. -/
theorem V3_r (d : Dev nD) : V3 m d r' = answer (m (aLoc d)) := by
  refine (StableHlo.reshape_result main_v1 main_v2 rfl shapeCasts_S4x128_S2x2x128 ⟨by decide, rfl⟩ ⟨by decide, rfl⟩ (V2 m d)).trans ?_
  show shapeCast S2x2x128 (V2 m d t') shapeCasts_S4x128_S2x2x128 = answer (m (aLoc d))
  rw [show V2 m d t' = picked (pairs m d) from Function.update_self _ _ _, pairs_eq]
  rfl

/-- The TensorCore's four arrays. -/
abbrev arrays : Finset (DevRef τ sig) := {a', x', t', r'}

omit [FloatOps F] in
/-- Holding the four arrays is holding each of them. -/
theorem held_arrays (d : Dev nD) (W : Valuation τ sig (Elt F)) :
    (held (T d) arrays W : sProp 𝕄) = iprop((aLoc d ↦{fullShare} W a') ∗ (xLoc d ↦{fullShare} W x') ∗ (tLoc d ↦{fullShare} W t') ∗ rLoc d ↦{fullShare} W r') := by
  unfold held arrays
  rw [SparseCore.bigSep_insert' (by decide), SparseCore.bigSep_insert' (by decide), SparseCore.bigSep_insert' (by decide), bigSep_singleton]

/-- What the launch gives `@main` is those arrays at their launch contents. -/
theorem unscoped_held (d : Dev nD) : (unscopedBufs d (fun b => m ((SparseCore.T d).loc b)) : sProp 𝕄) = held (T d) arrays (V0 m d) := by
  rw [held_arrays]
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]
  rfl

/-- One core takes part: the call's two sides are its payloads. -/
theorem lent_all (d : Dev nD) : (bigSep Finset.univ fun c : Fin ((K (F := F)).nCore 0) => (pay X).st 0 d c) = lent X d := by
  show (bigSep (Finset.univ : Finset (Fin 1)) fun _ => lent X d) = _
  rw [show (Finset.univ : Finset (Fin 1)) = {0} by decide, bigSep_singleton]

theorem back_all (d : Dev nD) : (bigSep Finset.univ fun c : Fin ((K (F := F)).nCore 0) => (pay X).dn 0 d c) = back X d := by
  show (bigSep (Finset.univ : Finset (Fin 1)) fun _ => back X d) = _
  rw [show (Finset.univ : Finset (Fin 1)) = {0} by decide, bigSep_singleton]

/-- What `@main` leaves: its arrays at their last contents. -/
abbrev left (d : Dev nD) : sProp 𝕄 := held (T d) arrays (V3 m d)

/-- `@main`: a reshape, the call, a reshape. -/
theorem host (κ : GSem nD τ sig → ℕ) (d : Dev nD) :
    iprop((K (F := F)).ctx EH (pay (pairs m)) κ ∗ (K (F := F)).tcSt EH d 0 ∗ (K (F := F)).tcRes m ρ d ∗ emp)
      ⊢ wp frame (wpE ((K (F := F)).defs (bodies (F := F))) vars (SparseCore.T d) none) Set.univ (main d)
          fun _ => iprop((K (F := F)).tcSt EH d 1 ∗ left m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- the table viewed as pairs
  iapply (wp_hlo_within vars (SparseCore.T d) none Set.univ (op := opPairs) (S := arrays)
    (show ({a', x'} : Finset (DevRef τ sig)) ⊆ arrays by decide) (V := V0 m d)) $$ [Hb Hheld]
  · isplitl [Hb] <;> iassumption
  iintro ⟨Hb, Hheld⟩
  ihave Hh := (Entails.of_eq (held_arrays (F := F) d (V1 m d))) $$ Hheld
  icases Hh with ⟨Ha, Hx, Ht, Hr⟩
  rw [wp_ret]; imodintro
  -- the call
  iapply ((K (F := F)).wp_run (bodies (F := F)) vars (EH := EH) (P := pay (pairs m)) κ d 0) $$ [Hst Ha Hx Ht Hr Hb Hts]
  isplitr; · iexact Hctx
  isplitl [Hst]; · iexact Hst
  isplitl [Hx Ht]
  · rw [lent_all]; unfold lent
    isplitl [Hx]; · iexact Hx
    iexists _; iexact Ht
  iintro ⟨Hst, Hdn⟩
  ihave Hdn' := (Entails.of_eq (back_all (pairs m) d)) $$ Hdn
  unfold back
  icases Hdn' with ⟨Hx, Ht⟩
  -- the four rows viewed as a two by two array
  iapply (wp_hlo_within vars (SparseCore.T d) none Set.univ (op := opGrid) (S := arrays)
    (show ({t', r'} : Finset (DevRef τ sig)) ⊆ arrays by decide) (V := V2 m d)) $$ [Hb Ha Hx Ht Hr]
  · isplitl [Hb]; · iexact Hb
    rw [held_arrays, show V2 m d a' = V1 m d a' from Function.update_of_ne (by decide) _ _,
      show V2 m d x' = V1 m d x' from Function.update_of_ne (by decide) _ _,
      show V2 m d t' = picked (pairs m d) from Function.update_self _ _ _,
      show V2 m d r' = V1 m d r' from Function.update_of_ne (by decide) _ _]
    isplitl [Ha]; · iexact Ha
    isplitl [Hx]; · iexact Hx
    isplitl [Ht]; · iexact Ht
    iexact Hr
  iintro ⟨Hb, Hheld⟩
  rw [wp_ret]; imodintro; imodintro
  isplitl [Hst]; · iexact Hst
  isplitl [Hheld]; · iexact Hheld
  isplitl [Hb] <;> iassumption

/-! ## The run -/

/-- Table and result of device `d` at the end. -/
def Ends (d : Dev nD) (s : MemSt nD τ sig (Elt F)) : Prop := s.mem (rLoc d) = answer (m (aLoc d)) ∧ s.mem (aLoc d) = m (aLoc d)

/-- What `@main` leaves says that of the final memory. -/
theorem left_ends (d : Dev nD) (s' : Phys nD τ sig (Elt F)) : iprop(left m d ∗ SI s') ⊢ (⌜Ends m d s'.mem⌝ : sProp 𝕄) := by
  refine sep_comm.trans ((SI_pointsTo_bufs_agree (st := s') (c := d) (qs := fun _ => fullShare) (F := V3 m d) arrays).trans ?_)
  iintro %h
  ipureintro
  exact ⟨(h r' (by decide)).trans (V3_r m d), (h a' (by decide)).trans (V3_a m d)⟩

/-- The whole run, over any float values: table kept, result at `answer`, every semaphore counter back at zero. -/
theorem run [∀ e, Nonempty (Elt F e)] : θ_run (Cert.KernelIdeal.defs (F := F)) (Cert.KernelIdeal.threads (F := F)) ⟨m, fun _ => 0, ρ⟩
    fun r => (∀ c : Dev nD, Ends m c r.2) ∧ r.2.sem = fun _ => 0 :=
  SparseCore.Cfg.θ_run_sc_quiescent (K := K (F := F)) (D := bodies (F := F)) (𝒱 := vars) (EH := EH) (P := pay (pairs m)) (A := ∅) facts var₀
    (fun q _ => match q with | 0 => obligation (pairs m))
    (fun q hq => match q with | 0 => nomatch hq)
    (fun q hq => match q with | 0 => nomatch hq)
    m ρ main (fun _ => iprop(emp)) (left m) (ghost₀ (F := F)) (sep_elim_left.trans (ghost_dealt (pairs m))) (host m ρ)
    (fun d s' => Ends m d s'.mem) (left_ends m) _ (fun _ h hz => ⟨h, hz⟩)

end Cert.Proof.Rows

end
-- ==== Proof.Value.lean ====
/-
  The values: the reference's term, taken step by step (the row numbers, the test that they are in the table, the gather and
  the choice between its rows and a stand-in), is the array the kernel leaves. No float is computed with, so this holds for
  any float values.
-/
module

public import proofs.«01_k».proof.Proof.Launch
public import proofs.«01_k».proof.Proof.Gen.ReferenceIdeal
public import proofs.«01_k».proof.Proof.Gen.ReferenceIdeal.Run
public import Idealize.ShloMosaic.Lib.ReduceAll
public import Idealize.ShloMosaic.Lib.Routing.Ops

@[expose] public section

noncomputable section

namespace Cert.Proof.Rows

open Cert.ReferenceIdeal Cert.ReferenceIdeal.Gen
open Idealize.ShloMosaic Idealize.ShloMosaic.ValueIdx

variable {F : FTy → Type}

/-- The table's row that row `q` of the result holds. -/
abbrev rowOf (q : Fin 4) : Fin 100000 := ⟨2 * (q.val % 2) + q.val / 2, by omega⟩

/-- What the kernel picks from the table viewed as pairs is that row of the table. -/
theorem picked_pairs (a : S100000x128.Idx → Elt F .f32) (h : S100000x128.ShapeCasts Cert.KernelIdeal.S50000x2x128) (q : Fin 4) (l : Fin 128) :
    picked (shapeCast Cert.KernelIdeal.S50000x2x128 a h) (ix2 q l) = a (ix2 (rowOf q) l) := by
  unfold picked shapeCast
  refine congrArg a (Shape.reshapeEquiv_eq_of_rowMajor _ ?_)
  refine (Shape.rowMajor_val_two _).trans (Eq.trans ?_ (Shape.rowMajor_val_three _).symm)
  show (2 * (q.val % 2) + q.val / 2) * 128 + l.val = ((q.val % 2) * 2 + q.val / 2) * 128 + l.val
  omega

/-- The literal index table, laid out flat. -/
abbrev ids : IVec S4 32 := shapeCast _ (shapeCast _ (fun i => lit0 (S1x2x2.rowMajor i)) shapeCasts_S1x2x2_S2x2) shapeCasts_S2x2_S4

/-- The row numbers as the gather reads them: negative ones counted from the end. -/
abbrev starts : IVec S4x1 32 :=
  broadcastInDim S4x1 ![0] bcast_S4_S4x1_0 (select (cmpi .slt ids (broadcastInDim S4 ![] bcast_S_S4 (constantI S_ 32 0#32)))
    (addi ids (broadcastInDim S4 ![] bcast_S_S4 (constantI S_ 32 100000#32))) ids)

/-- Whether a row number is one of the table's. -/
abbrev inTable : IVec S4x1 1 :=
  andi (cmpi .sge starts (broadcastInDim S4x1 ![] bcast_S_S4x1 (constantI S_ 32 0#32)))
    (cmpi .sle starts (broadcastInDim S4x1 ![0, 1] bcast_S1x1_S4x1_0_1 (broadcastInDim S1x1 ![1] bcast_S1_S1x1_1 (constantI S1 32 99999#32))))

/-- The row numbers the gather reads are the rows the kernel picks: 0, 2, 1, 3. -/
theorem starts_at (q : Fin 4) : starts (ix2 q (0 : Fin 1)) = BitVec.ofNat 32 (rowOf q).val := by
  fin_cases q <;> rfl

/-- All of them are rows of the table, so the reference never fills a row with its stand-in for a missing one. -/
theorem inTable_at (i : S4x1.Idx) : inTable i = 1#1 := by
  obtain ⟨q, z, rfl⟩ : ∃ (q : Fin 4) (z : Fin 1), i = ix2 q z := ⟨i 0, i 1, eq_ix2 i⟩
  obtain rfl : z = 0 := Subsingleton.elim _ _
  fin_cases q <;> rfl

/-- The reference's result as a function of the table. -/
abbrev taken [FloatOps F] (a : S100000x128.Idx → Elt F .f32) : S2x2x128.Idx → Elt F .f32 :=
  shapeCast _ (select (broadcastInDim S4x128 ![0] bcast_S4_S4x128_0
      (Host.reduce IntOp.andi inTable (constantI S_ 1 1#1) reducesTo_S4x1_S4_d1 h_S_))
    (Host.gather gather_S100000x128_S4x1_S4x128_1_0_n_n_0_1_1128 a starts)
    (broadcastInDim S4x128 ![] bcast_S_S4x128 (constant S_ .f32 0x7FC00000#32))) shapeCasts_S4x128_S2x2x128

/-- Reference and kernel leave the same array, element for element, for any float values. -/
theorem taken_eq [FloatOps F] (a : S100000x128.Idx → Elt F .f32) : taken a = answer a := by
  refine congrArg (fun r => shapeCast S2x2x128 r shapeCasts_S4x128_S2x2x128) (funext fun j => ?_)
  obtain ⟨q, l, rfl⟩ : ∃ (q : Fin 4) (l : Fin 128), j = ix2 q l := ⟨j 0, j 1, eq_ix2 j⟩
  rw [picked_pairs, select_apply]
  have hm : broadcastInDim S4x128 ![0] bcast_S4_S4x128_0
      (Host.reduce IntOp.andi inTable (constantI S_ 1 1#1) reducesTo_S4x1_S4_d1 h_S_) (ix2 q l) = 1#1 :=
    Host.reduce_andi_one _ _ _ _ _ rfl inTable_at
  rw [hm, select_one]
  exact Routing.gather_row _ rfl rfl rfl rfl rfl a starts q l (rowOf q) (starts_at q) (by decide)

end Cert.Proof.Rows

end
-- ==== Proof.lean ====
/-
  The certificate. The kernel's run is proved once for any float values (`Proof/Launch.lean`) and read here at the bit
  patterns and at the ideal values; the reference's run is the generated one, its term shown equal to the kernel's answer in
  `Proof/Value.lean`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Reference.Run
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Rows

/-- The printed kernel has the ideal program's text, so the one run read at the bit patterns is its frame. -/
theorem frame_kernel : Cert.quiescent_Kernel (hKernel := Cert.Kernel.Gen.facts) := fun m g _ =>
  (θ_run (Cert.KernelIdeal.defs (F := Bits)) _ _).mono (fun _ h => ⟨fun c => (h.1 c).2, h.2⟩) (run (F := Bits) m g)

theorem frame_kernelIdeal : Cert.quiescent_KernelIdeal (hKernelIdeal := Cert.KernelIdeal.Gen.facts) := fun m g _ =>
  (θ_run (Cert.KernelIdeal.defs (F := Ideal)) _ _).mono (fun _ h => ⟨fun c => (h.1 c).2, h.2⟩) (run (F := Ideal) m g)

/-- The reference declares no semaphore, so its counters are at zero. -/
theorem frame_referenceIdeal : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems rfl r.2⟩)
    (Cert.ReferenceIdeal.Value.run (F := Ideal) m g)

theorem frame_reference : Cert.quiescent_Reference (hReference := Cert.Reference.Gen.facts) := fun m g _ =>
  (θ_run (Cert.Reference.defs (F := Bits)) _ _).mono (fun r h => ⟨fun c => (h c).2, sem_eq_zero_of_no_sems rfl r.2⟩)
    (Cert.Reference.Value.run (F := Bits) m g)

/-- Over the ideal values both programs end at `answer` of the table. -/
theorem equal_ideal : Cert.algebraic_KernelIdeal_ReferenceIdeal (hKernelIdeal := Cert.KernelIdeal.Gen.facts)
    (hReferenceIdeal := Cert.ReferenceIdeal.Gen.facts) := fun m g m' g' _ hag =>
  ⟨fun c => answer (F := Ideal) (m (aLoc c)),
    (θ_run (Cert.KernelIdeal.defs (F := Ideal)) _ _).mono (fun _ h => h.1) (run (F := Ideal) m g),
    (θ_run (Cert.ReferenceIdeal.defs (F := Ideal)) _ _).mono
      (fun _ h c => ⟨(h c).1.trans ((taken_eq (F := Ideal) _).trans (congrArg (answer (F := Ideal)) (hag c))), (h c).2⟩)
      (Cert.ReferenceIdeal.Value.run (F := Ideal) m' g')⟩

/-- And over the bit patterns: the two results are the same bits. -/
theorem equal_bits : Cert.bitexact_Kernel_Reference (hKernel := Cert.Kernel.Gen.facts)
    (hReference := Cert.Reference.Gen.facts) := fun m g m' g' _ hag =>
  ⟨fun c => answer (F := Bits) (m (aLoc c)),
    (θ_run (Cert.KernelIdeal.defs (F := Bits)) _ _).mono (fun _ h => h.1) (run (F := Bits) m g),
    (θ_run (Cert.Reference.defs (F := Bits)) _ _).mono
      (fun _ h c => ⟨(h c).1.trans ((taken_eq (F := Bits) _).trans (congrArg (answer (F := Bits)) (hag c))), (h c).2⟩)
      (Cert.Reference.Value.run (F := Bits) m' g')⟩

theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, equal_ideal, equal_bits⟩

end Cert.Proof

end
